-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x [hPre_finite_x : Cert.Pre_finite_x.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x [hPre_finite_x : Cert.Pre_finite_x.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_x [hKernelIdeal : Cert.KernelIdeal.Facts] [hPre_finite_x : Cert.Pre_finite_x.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_x [hReferenceIdeal : Cert.ReferenceIdeal.Facts] [hPre_finite_x : Cert.Pre_finite_x.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_x [hKernelIdeal : Cert.KernelIdeal.Facts] [hReferenceIdeal : Cert.ReferenceIdeal.Facts] [hPre_finite_x : Cert.Pre_finite_x.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_v16) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_x : Cert.Pre_finite_x.Facts),
    quiescent_Kernel (hKernel := hKernel)
    ∧ quiescent_KernelIdeal (hKernelIdeal := hKernelIdeal)
    ∧ quiescent_KernelIdeal_pre_finite_x (hKernelIdeal := hKernelIdeal) (hPre_finite_x := hPre_finite_x)
    ∧ quiescent_ReferenceIdeal (hReferenceIdeal := hReferenceIdeal)
    ∧ quiescent_ReferenceIdeal_pre_finite_x (hReferenceIdeal := hReferenceIdeal) (hPre_finite_x := hPre_finite_x)
    ∧ preserves_Kernel_KernelIdeal
    ∧ algebraic_KernelIdeal_ReferenceIdeal_pre_finite_x (hKernelIdeal := hKernelIdeal) (hReferenceIdeal := hReferenceIdeal) (hPre_finite_x := hPre_finite_x)
-- ==== Pre_finite_x.lean ====
abbrev S16x256x32x32 : Shape := ⟨4, ![16, 256, 32, 32]⟩
abbrev S1024x256 : Shape := ⟨2, ![1024, 256]⟩
abbrev S_ : Shape := ⟨0, ![]⟩

class Facts : Prop where
  bcast_S_S16x256x32x32 : S_.BroadcastsInDim S16x256x32x32 (![] : Fin 0 → Fin S16x256x32x32.rank)

variable [Facts]

def fn {F : FTy → Type} [FloatOps F] (main_arg0 : FVec F S16x256x32x32 .f32) (main_arg1 : FVec F S1024x256 .f32) : IVec S16x256x32x32 1 :=
  let main_v0 : FVec F S16x256x32x32 .f32 := Host.absf main_arg0
  let main_cst : FVec F S_ .f32 := constant S_ .f32 0x7F800000#32
  let main_v1 : FVec F S16x256x32x32 .f32 := broadcastInDim S16x256x32x32 ![] bcast_S_S16x256x32x32 main_cst
  let main_v2 : IVec S16x256x32x32 1 := cmpf .olt main_v0 main_v1
  main_v2
-- ==== Kernel.lean ====
abbrev S16x256x32x32 : Shape := ⟨4, ![16, 256, 32, 32]⟩
abbrev S1024x256 : Shape := ⟨2, ![1024, 256]⟩
abbrev S16x32x32x256 : Shape := ⟨4, ![16, 32, 32, 256]⟩
abbrev S16x1024x256 : Shape := ⟨3, ![16, 1024, 256]⟩
abbrev S1x1 : Shape := ⟨2, ![1, 1]⟩
abbrev S16x1024x1024 : Shape := ⟨3, ![16, 1024, 1024]⟩
abbrev S16x1x1024 : Shape := ⟨3, ![16, 1, 1024]⟩
abbrev S1x1024x256 : Shape := ⟨3, ![1, 1024, 256]⟩
abbrev S1x1024x1024 : Shape := ⟨3, ![1, 1024, 1024]⟩
abbrev S1x1x1024 : Shape := ⟨3, ![1, 1, 1024]⟩
abbrev S1024 : Shape := ⟨1, ![1024]⟩
abbrev S1024x1 : Shape := ⟨2, ![1024, 1]⟩
abbrev S1024x1024 : Shape := ⟨2, ![1024, 1024]⟩
abbrev S1x1024 : Shape := ⟨2, ![1, 1024]⟩
abbrev S1 : Shape := ⟨1, ![1]⟩
abbrev S1x1x1 : Shape := ⟨3, ![1, 1, 1]⟩
abbrev S_ : Shape := ⟨0, ![]⟩
abbrev S16384x1024 : Shape := ⟨2, ![16384, 1024]⟩
abbrev S16384 : Shape := ⟨1, ![16384]⟩

abbrev nBuf : Space → Nat
  | .hbm => 17
  | .vmem => 10
  | .smem => 0
  | _ => 0

abbrev bufTy : (tb : Table) → Fin (tcTables nBuf tb) → BufTy
  | .hbm, ⟨0, _⟩ => ⟨S16x256x32x32, .f32⟩
  | .hbm, ⟨1, _⟩ => ⟨S1024x256, .f32⟩
  | .hbm, ⟨2, _⟩ => ⟨S16x32x32x256, .f32⟩
  | .hbm, ⟨3, _⟩ => ⟨S16x1024x256, .f32⟩
  | .hbm, ⟨4, _⟩ => ⟨S1x1, .f32⟩
  | .hbm, ⟨5, _⟩ => ⟨S16x1024x256, .f32⟩
  | .hbm, ⟨6, _⟩ => ⟨S16x1024x1024, .f32⟩
  | .hbm, ⟨7, _⟩ => ⟨S16x1x1024, .i32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S16x32x32x256, .f32⟩
  | .hbm, ⟨14, _⟩ => ⟨S16x256x32x32, .f32⟩
  | .hbm, ⟨15, _⟩ => ⟨S16384x1024, .f32⟩
  | .hbm, ⟨16, _⟩ => ⟨S16384, .i32⟩
  | .local _ .vmem, ⟨0, _⟩ => ⟨S1x1024x256, .f32⟩
  | .local _ .vmem, ⟨1, _⟩ => ⟨S1x1024x256, .f32⟩
  | .local _ .vmem, ⟨2, _⟩ => ⟨S1024x256, .f32⟩
  | .local _ .vmem, ⟨3, _⟩ => ⟨S1x1, .f32⟩
  | .local _ .vmem, ⟨4, _⟩ => ⟨S1x1024x256, .f32⟩
  | .local _ .vmem, ⟨5, _⟩ => ⟨S1x1024x256, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .i32⟩
  | .local _ .vmem, ⟨9, _⟩ => ⟨S1x1x1024, .i32⟩
  | _, _ => ⟨S16x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16x256x32x32 : Shape := ⟨4, ![16, 256, 32, 32]⟩
abbrev S1024x256 : Shape := ⟨2, ![1024, 256]⟩
abbrev S16x32x32x256 : Shape := ⟨4, ![16, 32, 32, 256]⟩
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩
abbrev S256x1024 : Shape := ⟨2, ![256, 1024]⟩

abbrev nBuf : Space → Nat
  | .hbm => 52
  | .vmem => 0
  | .smem => 0
  | _ => 0

abbrev bufTy : (tb : Table) → Fin (tcTables nBuf tb) → BufTy
  | .hbm, ⟨0, _⟩ => ⟨S16x256x32x32, .f32⟩
  | .hbm, ⟨1, _⟩ => ⟨S1024x256, .f32⟩
  | .hbm, ⟨2, _⟩ => ⟨S16x32x32x256, .f32⟩
  | .hbm, ⟨3, _⟩ => ⟨S16384x256, .f32⟩
  | .hbm, ⟨4, _⟩ => ⟨S16384x256, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S1024x256, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S256x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .i32⟩
  | .hbm, ⟨22, _⟩ => ⟨S_, .f32⟩
  | .hbm, ⟨23, _⟩ => ⟨S_, .i32⟩
  | .hbm, ⟨24, _⟩ => ⟨S16384, .f32⟩
  | .hbm, ⟨25, _⟩ => ⟨S16384, .i32⟩
  | .hbm, ⟨26, _⟩ => ⟨S16384x1, .i32⟩
  | .hbm, ⟨27, _⟩ => ⟨S1x1024, .i32⟩
  | .hbm, ⟨28, _⟩ => ⟨S16384x1024, .i32⟩
  | .hbm, ⟨29, _⟩ => ⟨S16384x1024, .i32⟩
  | .hbm, ⟨30, _⟩ => ⟨S16384x1024, .i1⟩
  | .hbm, ⟨31, _⟩ => ⟨S16384x1024, .f32⟩
  | .hbm, ⟨32, _⟩ => ⟨S16384x256, .f32⟩
  | .hbm, ⟨33, _⟩ => ⟨S16x32x32x256, .f32⟩
  | .hbm, ⟨34, _⟩ => ⟨S16x32x32x256, .f32⟩
  | .hbm, ⟨35, _⟩ => ⟨S16x32x32x256, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S16x32x32x256, .f32⟩
  | .hbm, ⟨41, _⟩ => ⟨S16x32x32x256, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S16x32x32x256, .f32⟩
  | .hbm, ⟨47, _⟩ => ⟨S16x32x32x256, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S16x256x32x32, .f32⟩
  | _, _ => ⟨S16x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]
-- ==== Proof.FirstMin.lean ====
/- The first minimum of a function of 1024 codes with values in the extended reals: its definition, what
   characterises it, and the two ways a program computes it — by an index carried through a minimum of indices, and by
   a left fold over (value, index) pairs. Names no program. -/
module

public import Mathlib.Data.EReal.Basic
public import Mathlib.Data.Finset.Max
public import Mathlib.Data.Fintype.Basic
public import Mathlib.Order.Fin.Basic
public import Mathlib.Data.Finset.Lattice.Fold

@[expose] public section

noncomputable section

namespace Cert.Proof.Vq

/-- The codes at which `f` is least. -/
def leastSet (f : Fin 1024 → EReal) : Finset (Fin 1024) := Finset.univ.filter fun k => ∀ j, f k ≤ f j

/-- `f` is least somewhere. -/
theorem leastSet_nonempty (f : Fin 1024 → EReal) : (leastSet f).Nonempty := by
  obtain ⟨k, _, hk⟩ := Finset.exists_min_image (Finset.univ : Finset (Fin 1024)) f ⟨0, Finset.mem_univ _⟩
  exact ⟨k, Finset.mem_filter.2 ⟨Finset.mem_univ _, fun j => hk j (Finset.mem_univ _)⟩⟩

/-- The first code at which `f` is least. -/
def firstMin (f : Fin 1024 → EReal) : Fin 1024 := (leastSet f).min' (leastSet_nonempty f)

/-- The value at the first minimum is below every value. -/
theorem firstMin_le (f : Fin 1024 → EReal) (j : Fin 1024) : f (firstMin f) ≤ f j :=
  (Finset.mem_filter.1 ((leastSet f).min'_mem (leastSet_nonempty f))).2 j

/-- No code before the first minimum has its value. -/
theorem firstMin_first (f : Fin 1024 → EReal) (j : Fin 1024) (h : f j = f (firstMin f)) : firstMin f ≤ j :=
  (leastSet f).min'_le j (Finset.mem_filter.2 ⟨Finset.mem_univ _, fun i => h ▸ firstMin_le f i⟩)

/-- A code at which `f` is least, and before which it is nowhere so small, is the first minimum. -/
theorem eq_firstMin {f : Fin 1024 → EReal} {k : Fin 1024} (hle : ∀ j, f k ≤ f j) (hfst : ∀ j, f j = f k → k ≤ j) :
    k = firstMin f :=
  le_antisymm (hfst _ (le_antisymm (firstMin_le f k) (hle _))) (firstMin_first f k (le_antisymm (hle _) (firstMin_le f k)))

/-- The minimum of all the values, from the top, is the value at the first minimum. -/
theorem fold_min (f : Fin 1024 → EReal) : Finset.univ.fold min ⊤ f = f (firstMin f) :=
  le_antisymm ((Finset.inf_le (s := Finset.univ) (f := f) (Finset.mem_univ (firstMin f))))
    (Finset.le_inf (s := Finset.univ) (f := f) fun j _ => firstMin_le f j)

/-- The minimum over the codes of "the code where the value is the least one, `top` elsewhere" is the first minimum,
    for a `top` above every code. -/
theorem fold_min_codes (f : Fin 1024 → EReal) (top : EReal) (htop : ∀ k : Fin 1024, (((k.val : ℝ) : EReal)) ≤ top) :
    (Finset.univ.fold min ⊤ fun k : Fin 1024 => if f k = f (firstMin f) then (((k.val : ℝ) : EReal)) else top)
      = (((firstMin f).val : ℝ) : EReal) := by
  refine le_antisymm ?_ ?_
  · refine (Finset.inf_le (s := Finset.univ)
      (f := fun k : Fin 1024 => if f k = f (firstMin f) then (((k.val : ℝ) : EReal)) else top) (Finset.mem_univ (firstMin f))).trans ?_
    simp
  · refine Finset.le_inf (s := Finset.univ)
      (f := fun k : Fin 1024 => if f k = f (firstMin f) then (((k.val : ℝ) : EReal)) else top) fun k _ => ?_
    show _ ≤ (if f k = f (firstMin f) then (((k.val : ℝ) : EReal)) else top)
    split
    · rename_i h
      exact_mod_cast firstMin_first f k h
    · exact htop _

/-- One step of a left fold that keeps the least (value, code) pair, of equal values the one of smaller code. -/
def lexStep (a b : EReal × ℕ) : EReal × ℕ :=
  if a.1 < b.1 ∨ (a.1 = b.1 ∧ a.2 < b.2) then a else b

/-- `a` comes before `b`, or is no later: a smaller value, or the same value and a code no larger. -/
def lexLe (a b : EReal × ℕ) : Prop := a.1 < b.1 ∨ (a.1 = b.1 ∧ a.2 ≤ b.2)

theorem lexLe_refl (a : EReal × ℕ) : lexLe a a := Or.inr ⟨rfl, le_rfl⟩

theorem lexLe_trans {a b c : EReal × ℕ} (h : lexLe a b) (h' : lexLe b c) : lexLe a c := by
  rcases h with h | ⟨h, k⟩ <;> rcases h' with h' | ⟨h', k'⟩
  · exact Or.inl (h.trans h')
  · exact Or.inl (h' ▸ h)
  · exact Or.inl (h ▸ h')
  · exact Or.inr ⟨h.trans h', k.trans k'⟩

theorem lexStep_le_left (a b : EReal × ℕ) : lexLe (lexStep a b) a := by
  unfold lexStep
  split
  · exact lexLe_refl a
  · rename_i h
    push Not at h
    rcases lt_or_eq_of_le h.1 with h1 | h1
    · exact Or.inl h1
    · exact Or.inr ⟨h1, h.2 h1.symm⟩

theorem lexStep_le_right (a b : EReal × ℕ) : lexLe (lexStep a b) b := by
  unfold lexStep
  split
  · rename_i h
    rcases h with h | ⟨h, k⟩
    · exact Or.inl h
    · exact Or.inr ⟨h, k.le⟩
  · exact lexLe_refl b

/-- The left fold from `p` over a list ends no later than `p` and every member of the list, and at one of them. -/
theorem foldl_lexStep (l : List (EReal × ℕ)) (p : EReal × ℕ) :
    lexLe (l.foldl lexStep p) p ∧ (∀ a ∈ l, lexLe (l.foldl lexStep p) a) ∧ (l.foldl lexStep p = p ∨ l.foldl lexStep p ∈ l) := by
  induction l generalizing p with
  | nil => exact ⟨lexLe_refl p, fun a ha => absurd ha List.not_mem_nil, Or.inl rfl⟩
  | cons b l ih =>
    obtain ⟨h1, h2, h3⟩ := ih (lexStep p b)
    refine ⟨lexLe_trans h1 (lexStep_le_left p b), fun a ha => ?_, ?_⟩
    · rcases List.mem_cons.1 ha with rfl | ha
      · exact lexLe_trans h1 (lexStep_le_right p a)
      · exact h2 a ha
    · rcases h3 with h3 | h3
      · have : lexStep p b = p ∨ lexStep p b = b := by unfold lexStep; split <;> simp
        rcases this with h | h
        · exact Or.inl (h3.trans h)
        · exact Or.inr (by rw [List.foldl_cons, h3, h]; exact List.mem_cons_self)
      · exact Or.inr (List.mem_cons_of_mem _ h3)

/-- The left fold from (top, 0) over a list that holds exactly the pairs (`f k`, `k`) ends at the first minimum. -/
theorem foldl_lexStep_firstMin (f : Fin 1024 → EReal) (l : List (EReal × ℕ)) (hall : ∀ k : Fin 1024, (f k, k.val) ∈ l)
    (honly : ∀ a ∈ l, ∃ k : Fin 1024, a = (f k, k.val)) : (l.foldl lexStep (⊤, 0)).2 = (firstMin f).val := by
  obtain ⟨-, hle, hmem⟩ := foldl_lexStep l (⊤, 0)
  have key : ∀ k : Fin 1024, l.foldl lexStep (⊤, 0) = (f k, k.val) → (l.foldl lexStep (⊤, 0)).2 = (firstMin f).val := by
    intro k hk
    rw [hk]
    refine congrArg Fin.val (eq_firstMin (f := f) (k := k) (fun j => ?_) fun j hj => ?_)
    · rcases hk ▸ hle _ (hall j) with h | ⟨h, -⟩
      · exact h.le
      · exact h.le
    · rcases hk ▸ hle _ (hall j) with h | ⟨-, h⟩
      · exact absurd hj h.ne'
      · exact h
  rcases hmem with h | h
  · refine key 0 (h.trans (Prod.ext ?_ rfl))
    rcases h ▸ hle _ (hall 0) with h' | ⟨h', -⟩
    · exact absurd h' not_top_lt
    · exact h'
  · obtain ⟨k, hk⟩ := honly _ h
    exact key k hk

end Cert.Proof.Vq

end
-- ==== Proof.Quantiser.lean ====
/- Vector quantisation of one row of 256 values by a codebook of 1024 rows, over the extended reals: the distances, the
   nearest code, its one-hot row, the quantised row and the squared error; and the small laws of extended-real sums that
   the two programs need to meet there. Names no program. -/
module

public import proofs.«01_k».proof.Proof.FirstMin
public import Mathlib.Data.EReal.Inv
public import Mathlib.Algebra.BigOperators.Fin
public import Mathlib.Tactic.NormNum

@[expose] public section

noncomputable section

namespace Cert.Proof.Vq

/-- One row of the input. -/
abbrev Row := Fin 256 → EReal

/-- The codebook: 1024 rows. -/
abbrev Book := Fin 1024 → Fin 256 → EReal

/-- The squared distance of row `r` to code `k`, expanded: `|r|² + |w k|² − 2 · (r · w k)`. -/
def dist (r : Row) (w : Book) (k : Fin 1024) : EReal :=
  ((∑ c, r c * r c) + ∑ c, w k c * w k c) - ((2 : ℝ) : EReal) * ∑ c, r c * w k c

/-- The nearest code: the first one at the least distance. -/
def code (r : Row) (w : Book) : Fin 1024 := firstMin (dist r w)

/-- The one-hot row of the nearest code. -/
def hot (r : Row) (w : Book) (k : Fin 1024) : EReal := if k = code r w then 1 else 0

/-- The quantised row: the one-hot row times the codebook. -/
def quant (r : Row) (w : Book) (c : Fin 256) : EReal := ∑ k, hot r w k * w k c

/-- The squared error of the quantised row. -/
def err (r : Row) (w : Book) : EReal := ∑ c, (quant r w c - r c) * (quant r w c - r c)

/-- Twice an extended real is its sum with itself. -/
theorem two_mul_ereal (a : EReal) : ((2 : ℝ) : EReal) * a = a + a := by
  have h : ((2 : ℝ) : EReal) = 1 + 1 := by norm_cast
  rw [h, EReal.right_distrib_of_nonneg (by norm_num) (by norm_num), one_mul]

/-- A nonnegative real factor distributes over a finite sum. -/
theorem coe_mul_sum {ι : Type} (s : Finset ι) (q : ℝ) (hq : 0 ≤ q) (f : ι → EReal) :
    (q : EReal) * ∑ i ∈ s, f i = ∑ i ∈ s, (q : EReal) * f i := by
  induction s using Finset.cons_induction with
  | empty => simp
  | cons a s ha ih =>
    rw [Finset.sum_cons, Finset.sum_cons,
      EReal.left_distrib_of_nonneg_of_ne_top (by exact_mod_cast hq) (EReal.coe_ne_top q), ih]

/-- The product of a row with the doubled code is twice the product with the code. -/
theorem sum_mul_double (r v : Row) : ∑ c, r c * (v c + v c) = ((2 : ℝ) : EReal) * ∑ c, r c * v c := by
  rw [coe_mul_sum _ _ (by norm_num)]
  refine Finset.sum_congr rfl fun c _ => ?_
  rw [← two_mul_ereal, mul_left_comm]

/-- A finite `a` and any `q`: `a + (q − a) = q`. -/
theorem add_sub_self {a q : EReal} (hb : a ≠ ⊥) (ht : a ≠ ⊤) : a + (q - a) = q := by
  induction a with
  | bot => exact absurd rfl hb
  | top => exact absurd rfl ht
  | coe a =>
    induction q with
    | bot => simp
    | top => simp
    | coe q => norm_cast; ring

end Cert.Proof.Vq

end
-- ==== Proof.Block.lean ====
/- What the kernel's body computes on one block of 1024 rows, row by row: each payload of the body read at an index and
   found to be the quantiser's (Quantiser) value at the block's row. -/
module

public import proofs.«01_k».proof.Proof.Quantiser
public import proofs.«01_k».proof.Proof.Gen.KernelIdeal
public import proofs.«01_k».proof.Proof.Gen.KernelIdeal.Skeleton
public import Idealize.ShloMosaic.Lib.Pointwise
public import Idealize.ShloMosaic.Lib.IdealHost

@[expose] public section

set_option maxRecDepth 16384

noncomputable section

namespace Cert.Proof.Block

open Idealize.ShloMosaic
open Cert.KernelIdeal Cert.KernelIdeal.Gen Cert.Proof.Vq

/-! ## Constants -/

/-- The single-precision pattern of plus infinity is the top. -/
theorem bits_inf : Ideal.ofBits .f32 0x7F800000#32 = ⊤ := by simp [Ideal.ofBits, Ideal.ieee]

/-- The single-precision pattern of 1024. -/
theorem bits_1024 : Ideal.ofBits .f32 0x44800000#32 = ((1024 : ℝ) : EReal) := by
  simp [Ideal.ofBits, Ideal.ieee, -EReal.coe_mul]; norm_num

/-- The single-precision pattern of two. -/
theorem bits_two : Ideal.ofBits .f32 0x40000000#32 = ((2 : ℝ) : EReal) := by
  simp [Ideal.ofBits, Ideal.ieee, -EReal.coe_mul]; norm_num

/-- The single-precision pattern of 4194304, the number of the input's elements. -/
theorem bits_count : Ideal.ofBits .f32 0x4A800000#32 = ((4194304 : ℝ) : EReal) := by
  simp [Ideal.ofBits, Ideal.ieee, -EReal.coe_mul]; norm_num

/-- A code's word, read as a signed integer and converted, is the code. -/
theorem sitofp_code (k : Fin 1024) :
    FloatOps.sitofp (F := Ideal) .f32 (BitVec.ofNat 32 k.val) = ((k.val : ℝ) : EReal) := by
  show (((BitVec.ofNat 32 k.val).toInt : ℝ) : EReal) = _
  have h : (BitVec.ofNat 32 k.val).toInt = (k.val : ℤ) := by
    have := k.isLt
    have hn : (BitVec.ofNat 32 k.val).toNat = k.val := by
      rw [BitVec.toNat_ofNat]; exact Nat.mod_eq_of_lt (by omega)
    rw [BitVec.toInt_eq_toNat_of_lt (by omega), hn]
  rw [h]; norm_cast

/-- A code converted back to a word. -/
theorem fptosi_code (k : Fin 1024) :
    FloatOps.fptosi (F := Ideal) (φ := .f32) 32 (((k.val : ℝ) : EReal)) = BitVec.ofNat 32 k.val := by
  show Ideal.fptosi 32 _ = _
  have := k.isLt
  unfold Ideal.fptosi
  rw [Ideal.toIntClamped_coe, if_pos (Nat.cast_nonneg _), Int.floor_natCast]
  rw [show max (-((2 ^ (32 - 1) : ℕ) : ℤ)) (min (((2 ^ (32 - 1) : ℕ) : ℤ) - 1) (k.val : ℤ)) = (k.val : ℤ) by
    norm_num; omega]
  simp

/-- A truth value's word, read as a signed integer and converted, is one or zero. -/
theorem sitofp_bool (q : Prop) [Decidable q] :
    FloatOps.sitofp (F := Ideal) .f32 (BitVec.setWidth 32 (BitVec.ofBool (decide q))) = if q then (1 : EReal) else 0 := by
  show (((BitVec.setWidth 32 (BitVec.ofBool (decide q))).toInt : ℝ) : EReal) = _
  by_cases h : q <;> simp [h]

/-! ## The payloads -/

/-- Row `p` of a block of 1024 rows. -/
def brow (x : Vec Ideal S1x1024x256 .f32) (p : Fin 1024) : Row := fun c => x (ix3 0 p c)

/-- The rows of the codebook. -/
def book (w : Vec Ideal S1024x256 .f32) : Book := fun k c => w (ix2 k c)

variable (x : Vec Ideal S1x1024x256 .f32) (w : Vec Ideal S1024x256 .f32)

/-- The block as a matrix of rows. -/
theorem pay5_apply (p : Fin 1024) (c : Fin 256) : k0_pay5 (F := Ideal) x (ix2 p c) = brow x p c := by
  pointwise [k0_pay5]
  rfl

/-- The masked codes: at the codes of least distance the code itself, elsewhere 1024. -/
theorem pay6_apply (p k : Fin 1024) :
    k0_pay6 (F := Ideal) x w (ix2 p k)
      = if dist (brow x p) (book w) k = dist (brow x p) (book w) (code (brow x p) (book w)) then ((k.val : ℝ) : EReal)
        else ((1024 : ℝ) : EReal) := by
  have hd : ∀ k : Fin 1024, ∑ c, x (ix3 0 p c) * x (ix3 0 p c) + ∑ c, w (ix2 k c) * w (ix2 k c)
      - ∑ c, x (ix3 0 p c) * (w (ix2 k c) + w (ix2 k c)) = dist (brow x p) (book w) k := by
    intro k
    rw [sum_mul_double (fun c => x (ix3 0 p c)) (fun c => w (ix2 k c))]
    rfl
  pointwise [k0_pay6, k0_pay5]
  simp only [hd, bits_inf, bits_1024, sitofp_code]
  rw [show Finset.fold min ⊤ (fun k => dist (brow x p) (book w) k) Finset.univ
    = dist (brow x p) (book w) (code (brow x p) (book w)) from fold_min (dist (brow x p) (book w))]

/-- The least masked code is the nearest code. -/
theorem pay7_apply (p : Fin 1024) : k0_pay7 (F := Ideal) x w (ix2 p 0) = (((code (brow x p) (book w)).val : ℝ) : EReal) := by
  pointwise [k0_pay7]
  simp only [pay6_apply, bits_inf]
  exact fold_min_codes (dist (brow x p) (book w)) _ fun k => by exact_mod_cast k.isLt.le

/-- The masked code equals the nearest code exactly at the nearest code. -/
theorem pay6_eq_iff (p k : Fin 1024) :
    k0_pay6 (F := Ideal) x w (ix2 p k) = k0_pay7 (F := Ideal) x w (ix2 p 0) ↔ k = code (brow x p) (book w) := by
  rw [pay6_apply, pay7_apply]
  constructor
  · intro h
    split at h
    · refine Fin.ext ?_
      exact_mod_cast h
    · have h' : (1024 : ℕ) = (code (brow x p) (book w)).val := by exact_mod_cast h
      exact absurd (code (brow x p) (book w)).isLt (by omega)
  · rintro rfl
    rw [if_pos rfl]

/-- The one-hot rows. -/
theorem pay8_apply (p k : Fin 1024) : k0_pay8 (F := Ideal) x w (ix2 p k) = hot (brow x p) (book w) k := by
  pointwise [k0_pay8]
  rw [sitofp_bool]
  simp only [pay6_eq_iff, hot]

/-- The nearest codes' words. -/
theorem pay9_apply (p : Fin 1024) : k0_pay9 (F := Ideal) x w (ix1 p) = BitVec.ofNat 32 (code (brow x p) (book w)).val := by
  pointwise [k0_pay9]
  rw [pay7_apply, fptosi_code]

/-- The quantised rows. -/
theorem pay10_apply (p : Fin 1024) (c : Fin 256) : k0_pay10 (F := Ideal) x w (ix2 p c) = quant (brow x p) (book w) c := by
  pointwise [k0_pay10]
  simp only [pay8_apply]
  rfl

/-- The block's squared error: the sum of its rows'. -/
theorem pay11_eq : k0_pay11 (F := Ideal) x w = ∑ p : Fin 1024, err (brow x p) (book w) := by
  unfold k0_pay11
  pointwise
  simp only [pay10_apply, pay5_apply]
  rfl

/-- The accumulated error after a block: what it was and the block's. -/
theorem pay1_apply (s : Ideal .f32) (y : Vec Ideal S1x1 .f32) : k0_pay1 (F := Ideal) s y (ix2 0 0) = y (ix2 0 0) + s := by
  pointwise [k0_pay1]

/-- The accumulated error starts at zero. -/
theorem pay12_apply : k0_pay12 (F := Ideal) (ix2 0 0) = 0 := by
  pointwise [k0_pay12]

/-- The stored quantised block. -/
theorem pay2_apply (v : FVec Ideal S1024x256 .f32) (p : Fin 1024) (c : Fin 256) :
    k0_pay2 (F := Ideal) v (ix3 0 p c) = v (ix2 p c) := by
  pointwise [k0_pay2]

/-- The stored one-hot block. -/
theorem pay3_apply (v : FVec Ideal S1024x1024 .f32) (p k : Fin 1024) :
    k0_pay3 (F := Ideal) v (ix3 0 p k) = v (ix2 p k) := by
  pointwise [k0_pay3]

/-- The stored codes. -/
theorem pay4_apply (v : IVec S1024 32) (p : Fin 1024) : k0_pay4 v (ix3 0 0 p) = v (ix1 p) := by
  pointwise [k0_pay4]

/-! ## The stored blocks, at any index -/

/-- The stored quantised block at any index. -/
theorem stored_quant (y : S1x1024x256.Idx) :
    k0_pay2 (F := Ideal) (k0_pay10 x w) y = quant (brow x (y 1)) (book w) (y 2) := by
  idx_vars y
  obtain rfl : y0 = 0 := Subsingleton.elim _ _
  rw [pay2_apply, pay10_apply]

/-- The stored one-hot block at any index. -/
theorem stored_hot (y : S1x1024x1024.Idx) :
    k0_pay3 (F := Ideal) (k0_pay8 x w) y = hot (brow x (y 1)) (book w) (y 2) := by
  idx_vars y
  obtain rfl : y0 = 0 := Subsingleton.elim _ _
  rw [pay3_apply, pay8_apply]

/-- The stored codes at any index. -/
theorem stored_code (y : S1x1x1024.Idx) :
    k0_pay4 (k0_pay9 (F := Ideal) x w) y = BitVec.ofNat 32 (code (brow x (y 2)) (book w)).val := by
  idx_vars y
  obtain rfl : y0 = 0 := Subsingleton.elim _ _
  obtain rfl : y1 = 0 := Subsingleton.elim _ _
  rw [pay4_apply, pay9_apply]

/-- The stored error at any index: what was accumulated and the block's. -/
theorem stored_err (a : Vec Ideal S1x1 .f32) (y : S1x1.Idx) :
    k0_pay1 (F := Ideal) (k0_pay11 x w) a y = a y + ∑ p : Fin 1024, err (brow x p) (book w) := by
  idx_vars y
  obtain rfl : y0 = 0 := Subsingleton.elim _ _
  obtain rfl : y1 = 0 := Subsingleton.elim _ _
  rw [pay1_apply, pay11_eq]

/-- The error's starting value at any index. -/
theorem zero_err (y : S1x1.Idx) : k0_pay12 (F := Ideal) y = 0 := by
  idx_vars y
  obtain rfl : y0 = 0 := Subsingleton.elim _ _
  obtain rfl : y1 = 0 := Subsingleton.elim _ _
  exact pay12_apply

end Cert.Proof.Block

end
-- ==== Proof.Input.lean ====
/- The rows and the codebook in the programs' two arguments: x, 16 images of 256 channels of 32 × 32 positions, holds
   1024 rows of 256 values per image, one per position, in position order; W holds the codebook as it is. -/
module

public import proofs.«01_k».proof.Proof.Quantiser
public import Idealize.ShloMosaic.Lib.Pointwise

@[expose] public section

noncomputable section

namespace Cert.Proof.Vq

open Idealize.ShloMosaic

/-- The row of image `b` at position `p` (row `p / 32`, column `p % 32` of the image). -/
def irow (x : (⟨4, ![16, 256, 32, 32]⟩ : Shape).Idx → EReal) (b : Fin 16) (p : Fin 1024) : Row :=
  fun c => x (ix4 b c (⟨p.val / 32, by omega⟩ : Fin 32) (⟨p.val % 32, by omega⟩ : Fin 32))

/-- The codebook of the argument. -/
def ibook (w : (⟨2, ![1024, 256]⟩ : Shape).Idx → EReal) : Book := fun k c => w (ix2 k c)

/-- The total squared error: over all images and positions. -/
def total (x : (⟨4, ![16, 256, 32, 32]⟩ : Shape).Idx → EReal) (w : (⟨2, ![1024, 256]⟩ : Shape).Idx → EReal) : EReal :=
  ∑ b : Fin 16, ∑ p : Fin 1024, err (irow x b p) (ibook w)

/-! ## The four results, as functions of the two arguments -/

/-- The loss: twice the mean squared error. -/
def lossOf (x : (⟨4, ![16, 256, 32, 32]⟩ : Shape).Idx → EReal) (w : (⟨2, ![1024, 256]⟩ : Shape).Idx → EReal) :
    (⟨0, ![]⟩ : Shape).Idx → EReal :=
  fun _ => Ideal.div (((2 : ℝ) : EReal) * total x w) ((4194304 : ℝ) : EReal)

/-- The quantised images: at each position the quantised row, its values back in the channels. -/
def outOf (x : (⟨4, ![16, 256, 32, 32]⟩ : Shape).Idx → EReal) (w : (⟨2, ![1024, 256]⟩ : Shape).Idx → EReal) :
    (⟨4, ![16, 256, 32, 32]⟩ : Shape).Idx → EReal :=
  fun j => quant (irow x (j 0) (⟨(j 2).val * 32 + (j 3).val, by
    have h2 : (j 2).val < 32 := (j 2).isLt
    have h3 : (j 3).val < 32 := (j 3).isLt
    omega⟩ : Fin 1024)) (ibook w) (j 1)

/-- The one-hot rows of all positions of all images, in order. -/
def hotOf (x : (⟨4, ![16, 256, 32, 32]⟩ : Shape).Idx → EReal) (w : (⟨2, ![1024, 256]⟩ : Shape).Idx → EReal) :
    (⟨2, ![16384, 1024]⟩ : Shape).Idx → EReal :=
  fun j => hot (irow x (⟨(j 0).val / 1024, by have h : (j 0).val < 16384 := (j 0).isLt; omega⟩ : Fin 16)
    (⟨(j 0).val % 1024, by omega⟩ : Fin 1024)) (ibook w) (j 1)

/-- The codes of all positions of all images, in order. -/
def codeOf (x : (⟨4, ![16, 256, 32, 32]⟩ : Shape).Idx → EReal) (w : (⟨2, ![1024, 256]⟩ : Shape).Idx → EReal) :
    (⟨1, ![16384]⟩ : Shape).Idx → BitVec 32 :=
  fun j => BitVec.ofNat 32 (code (irow x (⟨(j 0).val / 1024, by have h : (j 0).val < 16384 := (j 0).isLt; omega⟩ : Fin 16)
    (⟨(j 0).val % 1024, by omega⟩ : Fin 1024)) (ibook w)).val

end Cert.Proof.Vq

end
-- ==== Proof.Arrays.lean ====
/- What the kernel's four result arrays hold after the run: every point writes its block's quantised rows, one-hot rows
   and codes; the error accumulates over the sixteen points and is written back after the last. -/
module

public import proofs.«01_k».proof.Proof.Block
public import proofs.«01_k».proof.Proof.Input
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.ValueKit
public import Idealize.ShloMosaic.Lib.Claim

@[expose] public section

set_option maxRecDepth 16384

noncomputable section

namespace Cert.Proof.Arrays

open Idealize.ShloMosaic Idealize.ShloMosaic.TcCoe Idealize.SL.Sem
open Cert.KernelIdeal Cert.KernelIdeal.Gen Cert.Proof.Vq Cert.Proof.Block

variable (m : (ℓ : Loc nD τ sig) → Buf (Elt Ideal) ℓ) (c : Dev nD)

/-- The input on device `c`. -/
abbrev xin : S16x256x32x32.Idx → EReal := m ((c.tc : Thread nD τ).loc main_arg0)

/-- The codebook on device `c`. -/
abbrev win : S1024x256.Idx → EReal := m ((c.tc : Thread nD τ).loc main_arg1)

/-- The block each window is at, at point `t`. -/
theorem idx : ∀ t : Fin cfg0.N, win0_0.index t = ![t.val, 0, 0] ∧ win0_1.index t = ![0, 0] ∧ win0_2.index t = ![0, 0]
    ∧ win0_3.index t = ![t.val, 0, 0] ∧ win0_4.index t = ![t.val, 0, 0] ∧ win0_5.index t = ![t.val, 0, 0] := by
  decide +kernel

/-- The grid's point as an image number. -/
abbrev img (t : Fin cfg0.N) : Fin 16 := ⟨t.val, lt_of_lt_of_eq t.isLt (show cfg0.N = 16 from N_0)⟩

/-- The staged input as the region finds it: the argument with its channels last, its positions in one axis. -/
theorem staged : (V m c main_v1 : S16x1024x256.Idx → EReal)
    = shapeCast S16x1024x256 (transpose S16x32x32x256 [0, 2, 3, 1] (xin m c)
        transposes_S16x256x32x32_S16x32x32x256_0_2_3_1) shapeCasts_S16x32x32x256_S16x1024x256 := by
  show StableHlo.after hostOps0 _ _ = _
  after_results
  rfl

/-- The staged input holds the argument's rows. -/
theorem staged_apply (b : Fin 16) (p : Fin 1024) (q : Fin 256) :
    (V m c main_v1 : S16x1024x256.Idx → EReal) (ix3 b p q) = irow (xin m c) b p q := by
  rw [staged]
  pointwise
  unfold irow
  blk_ext!

/-- Block `t` of the staged input holds the rows of image `t`. -/
theorem row_eq (t : Fin cfg0.N) (p : Fin 1024) : brow (iblk m c 0 t) p = irow (xin m c) (img t) p := by
  funext q
  rw [← staged_apply m c]
  unfold brow
  blk_ext! [iblk, (idx t).1]

/-- The staged codebook is the codebook, at every point. -/
theorem book_eq (t : Fin cfg0.N) : book (iblk m c 1 t) = ibook (win m c) := by
  funext k q
  unfold book ibook
  blk_ext! [iblk, V, (idx t).2.1]

/-- The array of quantised rows. -/
def quants : S16x1024x256.Idx → EReal := fun j => quant (irow (xin m c) (j 0) (j 1)) (ibook (win m c)) (j 2)

/-- The array of one-hot rows. -/
def hots : S16x1024x1024.Idx → EReal := fun j => hot (irow (xin m c) (j 0) (j 1)) (ibook (win m c)) (j 2)

/-- The array of codes. -/
def codes : S16x1x1024.Idx → BitVec 32 := fun j => BitVec.ofNat 32 (code (irow (xin m c) (j 0) (j 2)) (ibook (win m c))).val

/-- What point `t` stores of quantised rows is image `t`'s part of the array. -/
theorem quants_at (t : Fin cfg0.N) (y : S1x1024x256.Idx) (i : S16x1024x256.Idx) (h0 : (i 0).val = t.val)
    (h1 : (i 1).val = (y 1).val) (h2 : (i 2).val = (y 2).val) :
    k0_pay2 (F := Ideal) (k0_pay10 (iblk m c 0 t) (iblk m c 1 t)) y = quants m c i := by
  rw [stored_quant]
  idx_vars y
  idx_vars i
  obtain rfl : i0 = img t := Fin.ext h0
  obtain rfl : i1 = y1 := Fin.ext h1
  obtain rfl : i2 = y2 := Fin.ext h2
  show quant (brow (iblk m c 0 t) i1) (book (iblk m c 1 t)) i2 = _
  rw [row_eq, book_eq]
  rfl

/-- What point `t` stores of one-hot rows is image `t`'s part of the array. -/
theorem hots_at (t : Fin cfg0.N) (y : S1x1024x1024.Idx) (i : S16x1024x1024.Idx) (h0 : (i 0).val = t.val)
    (h1 : (i 1).val = (y 1).val) (h2 : (i 2).val = (y 2).val) :
    k0_pay3 (F := Ideal) (k0_pay8 (iblk m c 0 t) (iblk m c 1 t)) y = hots m c i := by
  rw [stored_hot]
  idx_vars y
  idx_vars i
  obtain rfl : i0 = img t := Fin.ext h0
  obtain rfl : i1 = y1 := Fin.ext h1
  obtain rfl : i2 = y2 := Fin.ext h2
  show hot (brow (iblk m c 0 t) i1) (book (iblk m c 1 t)) i2 = _
  rw [row_eq, book_eq]
  rfl

/-- What point `t` stores of codes is image `t`'s part of the array. -/
theorem codes_at (t : Fin cfg0.N) (y : S1x1x1024.Idx) (i : S16x1x1024.Idx) (h0 : (i 0).val = t.val)
    (h2 : (i 2).val = (y 2).val) :
    k0_pay4 (k0_pay9 (F := Ideal) (iblk m c 0 t) (iblk m c 1 t)) y = codes m c i := by
  rw [stored_code]
  idx_vars y
  idx_vars i
  obtain rfl : i0 = img t := Fin.ext h0
  obtain rfl : i2 = y2 := Fin.ext h2
  show BitVec.ofNat 32 (code (brow (iblk m c 0 t) i2) (book (iblk m c 1 t))).val = _
  rw [row_eq, book_eq]
  rfl

/-- The quantised rows' array after the run. -/
theorem arr3 : (dats m 0 c).arrAt 3 cfg0.N = quants m c := by
  refine (dats m 0 c).arrAt_eq_of_covers 3 _ (by decide +kernel) fun t hf y => ?_
  have e : (outsAt0 m c t.val t.isLt).2.1 = k0_pay2 (k0_pay10 (iblk m c 0 t) (iblk m c 1 t)) := by
    by_cases h0 : t.val % 16 = 0
    · rw [outsAt0_A m c t h0]
      frame_out
    · rw [outsAt0_B m c t h0]
      frame_out
  blk_simp
  rw [after0_3, e]
  exact quants_at m c t y _ (by blk_simp [(idx t).2.2.2.1]) (by blk_simp [(idx t).2.2.2.1])
    (by blk_simp [(idx t).2.2.2.1])

/-- The one-hot rows' array after the run. -/
theorem arr4 : (dats m 0 c).arrAt 4 cfg0.N = hots m c := by
  refine (dats m 0 c).arrAt_eq_of_covers 4 _ (by decide +kernel) fun t hf y => ?_
  have e : (outsAt0 m c t.val t.isLt).2.2.1 = k0_pay3 (k0_pay8 (iblk m c 0 t) (iblk m c 1 t)) := by
    by_cases h0 : t.val % 16 = 0
    · rw [outsAt0_A m c t h0]
      frame_out
    · rw [outsAt0_B m c t h0]
      frame_out
  blk_simp
  rw [after0_4, e]
  exact hots_at m c t y _ (by blk_simp [(idx t).2.2.2.2.1]) (by blk_simp [(idx t).2.2.2.2.1])
    (by blk_simp [(idx t).2.2.2.2.1])

/-- The codes' array after the run. -/
theorem arr5 : (dats m 0 c).arrAt 5 cfg0.N = codes m c := by
  refine (dats m 0 c).arrAt_eq_of_covers 5 _ (by decide +kernel) fun t hf y => ?_
  have e : (outsAt0 m c t.val t.isLt).2.2.2 = k0_pay4 (k0_pay9 (iblk m c 0 t) (iblk m c 1 t)) := by
    by_cases h0 : t.val % 16 = 0
    · rw [outsAt0_A m c t h0]
      frame_out
    · rw [outsAt0_B m c t h0]
      frame_out
  blk_simp
  rw [after0_5, e]
  exact codes_at m c t y _ (by blk_simp [(idx t).2.2.2.2.2]) (by blk_simp [(idx t).2.2.2.2.2])

/-- The error's array after the run: the total over all blocks. -/
theorem arr2 : (dats m 0 c).arrAt 2 cfg0.N = fun _ : S1x1.Idx => total (xin m c) (win m c) := by
  refine (dats m 0 c).arrAt_eq_of_after_last 2 t0_15 (by decide +kernel) _ fun j => ?_
  blk_simp
  rw [after0_2]
  have h := Pipeline.eq_sum_fin_of_reset_step_apply_last (fun n h => (outsAt0 m c n h).1) 16 (fun _ : S1x1.Idx => (0 : EReal))
    (fun t _ => ∑ p : Fin 1024, err (irow (xin m c) (img t) p) (ibook (win m c)))
    (fun t h0 i => by
      rw [outsAt0_A m c t h0]
      frame_out
      rw [stored_err, zero_err, book_eq]
      simp only [row_eq])
    (fun t h0 i => by
      rw [outsAt0_B m c t h0]
      frame_out
      rw [stored_err, book_eq]
      simp only [row_eq])
    (by decide) t0_15 rfl
  exact (h j).trans (zero_add _)

end Cert.Proof.Arrays

end
-- ==== Proof.KernelRun.lean ====
/- The kernel's run: from any memory it ends with its four results at the quantiser's, functions of its two arguments,
   and with its arguments as they were. -/
module

public import proofs.«01_k».proof.Proof.Arrays

@[expose] public section

set_option maxRecDepth 16384

noncomputable section

namespace Cert.Proof.KernelRun

open Idealize.ShloMosaic Idealize.ShloMosaic.TcCoe Idealize.SL.Sem
open Cert.KernelIdeal Cert.KernelIdeal.Gen Cert.Proof.Vq Cert.Proof.Block Cert.Proof.Arrays

variable (m : (ℓ : Loc nD τ sig) → Buf (Elt Ideal) ℓ) (ρ : Dev nD → PrngReg)

/-- The windows' arrays are distinct buffers. -/
theorem arr_inj : Function.Injective (Pipeline.arrRef spec0) := by decide

/-- What the tail finds in the array of window `w`: what the region left there. -/
theorem tail_arr (c : Dev nD) (w : Fin cfg0.W) :
    Pipeline.withArrays spec0 c (V0 m c) (fun w => (dats m 0 c).arrAt w cfg0.N) (Proc.devRef .tc (Pipeline.arrRef spec0 w))
      = (dats m 0 c).arrAt w cfg0.N :=
  Pipeline.withArrays_arr spec0 arr_inj c _ _ w

/-- The loss after the run: twice the total error over the number of elements. -/
theorem tail_loss (c : Dev nD) :
    Pipeline.afterTail₀ cfgs (dats m) 0 (V0 m) [hostOps1] c main_v5 = lossOf (xin m c) (Arrays.win m c) := by
  unfold Pipeline.afterTail₀
  show StableHlo.after hostOps1 _ _ = _
  after_results
  refine (congrArg
    (fun v => Host.divf (F := Ideal) (mulf (constant S_ .f32 0x40000000#32) (shapeCast S_ v shapeCasts_S1x1_S_))
      (constant S_ .f32 0x4A800000#32))
    ((tail_arr m c 2).trans (arr2 m c))).trans ?_
  funext y
  obtain rfl : y = ix0 := ValueIdx.eq_ix0 _
  pointwise
  rw [bits_two, bits_count]
  rfl

/-- The output after the run: the quantised rows, their values back in the channels. -/
theorem tail_out (c : Dev nD) :
    Pipeline.afterTail₀ cfgs (dats m) 0 (V0 m) [hostOps1] c main_v7 = outOf (xin m c) (Arrays.win m c) := by
  unfold Pipeline.afterTail₀
  show StableHlo.after hostOps1 _ _ = _
  after_results
  refine (congrArg
    (fun v => transpose S16x256x32x32 [0, 3, 1, 2] (shapeCast S16x32x32x256 v shapeCasts_S16x1024x256_S16x32x32x256) transposes_S16x32x32x256_S16x256x32x32_0_3_1_2)
    ((tail_arr m c 3).trans (arr3 m c))).trans ?_
  funext y
  idx_vars y
  pointwise
  rfl

/-- The encodings after the run: the one-hot rows of all positions. -/
theorem tail_hot (c : Dev nD) :
    Pipeline.afterTail₀ cfgs (dats m) 0 (V0 m) [hostOps1] c main_v8 = hotOf (xin m c) (Arrays.win m c) := by
  unfold Pipeline.afterTail₀
  show StableHlo.after hostOps1 _ _ = _
  after_results
  refine (congrArg
    (fun v => shapeCast S16384x1024 v shapeCasts_S16x1024x1024_S16384x1024)
    ((tail_arr m c 4).trans (arr4 m c))).trans ?_
  funext y
  idx_vars y
  pointwise
  rfl

/-- The indices after the run: the codes of all positions. -/
theorem tail_code (c : Dev nD) :
    Pipeline.afterTail₀ cfgs (dats m) 0 (V0 m) [hostOps1] c main_v9 = codeOf (xin m c) (Arrays.win m c) := by
  unfold Pipeline.afterTail₀
  show StableHlo.after hostOps1 _ _ = _
  after_results
  refine (congrArg
    (fun v => shapeCast S16384 v shapeCasts_S16x1x1024_S16384)
    ((tail_arr m c 5).trans (arr5 m c))).trans ?_
  funext y
  idx_vars y
  pointwise
  rfl

/-- The kernel runs, and ends with its four results at the quantiser's and its arguments as they were. -/
theorem run : θ_run defs (onTc (τ := τ) (main (F := Ideal))) ⟨m, fun _ => 0, ρ⟩ fun r => ∀ c : Dev nD,
    r.2.mem ((c.tc : Thread nD τ).loc main_v5) = lossOf (xin m c) (Arrays.win m c)
    ∧ r.2.mem ((c.tc : Thread nD τ).loc main_v7) = outOf (xin m c) (Arrays.win m c)
    ∧ r.2.mem ((c.tc : Thread nD τ).loc main_v8) = hotOf (xin m c) (Arrays.win m c)
    ∧ r.2.mem ((c.tc : Thread nD τ).loc main_v9) = codeOf (xin m c) (Arrays.win m c)
    ∧ r.2.mem ((c.tc : Thread nD τ).loc main_arg0) = m ((c.tc : Thread nD τ).loc main_arg0)
    ∧ r.2.mem ((c.tc : Thread nD τ).loc main_arg1) = m ((c.tc : Thread nD τ).loc main_arg1) := by
  run_from (Gen.run_main m ρ)
  · exact tail_loss m c
  · exact tail_out m c
  · exact tail_hot m c
  · exact tail_code m c
  · exact W_main_arg0 m (dats m) c

end Cert.Proof.KernelRun

end
-- ==== Proof.RefRun.lean ====
/- The reference's run: its operations in order, each result a composed term of the two arguments; the terms named
   stage by stage. -/
module

public import proofs.«01_k».proof.Proof.Gen.ReferenceIdeal
public import Idealize.ShloMosaic.Lib.Claim
public import Idealize.ShloMosaic.PureOps.Ideal.Laws

@[expose] public section

set_option maxRecDepth 16384

noncomputable section

namespace Cert.Proof.Ref

open Idealize.ShloMosaic Idealize.ShloMosaic.TcCoe Idealize.SL.Sem
open Cert.ReferenceIdeal
open Cert.ReferenceIdeal.Facts₀ Cert.ReferenceIdeal.Facts

variable (x : FVec Ideal S16x256x32x32 .f32) (w : FVec Ideal S1024x256 .f32)

/-- The images with their channels last. -/
def last : FVec Ideal S16x32x32x256 .f32 :=
  transpose S16x32x32x256 [0, 2, 3, 1] x transposes_S16x256x32x32_S16x32x32x256_0_2_3_1

/-- The rows. -/
def rows : FVec Ideal S16384x256 .f32 := shapeCast S16384x256 (last x) shapeCasts_S16x32x32x256_S16384x256

/-- The distances of all rows to all codes. -/
def dists : FVec Ideal S16384x1024 .f32 :=
  subf
    (addf
      (broadcastInDim S16384x1024 ![0, 1] bcast_S16384x1_S16384x1024_0_1
        (broadcastInDim S16384x1 ![0] bcast_S16384_S16384x1_0
          (Host.reduceAdd (mulf (rows x) (rows x)) (constant S_ .f32 0x00000000#32) reducesTo_S16384x256_S16384_d1 h_S_)))
      (broadcastInDim S16384x1024 ![0, 1] bcast_S1x1024_S16384x1024_0_1
        (broadcastInDim S1x1024 ![1] bcast_S1024_S1x1024_1
          (Host.reduceAdd (mulf w w) (constant S_ .f32 0x00000000#32) reducesTo_S1024x256_S1024_d1 h_S_))))
    (mulf (broadcastInDim S16384x1024 ![] bcast_S_S16384x1024 (constant S_ .f32 0x40000000#32))
      (Host.dotGeneral dot_S16384x256_S256x1024_S16384x1024_1_0_0_1_n_n none (rows x)
        (transpose S256x1024 [1, 0] w transposes_S1024x256_S256x1024_1_0)))

/-- The arg-min of distances, from a starting value and a starting code. -/
def codesOf (d : FVec Ideal S16384x1024 .f32) (top : FVec Ideal S_ .f32) (zero : IVec S_ 32) : IVec S16384 32 := fun j =>
  (Host.argReduce reducer_argmin_f32_i32 d (iotaInDim S16384x1024 32 1) top zero reducesTo_S16384x1024_S16384_d1 h_S_ j).2

/-- The codes: the arg-min of the distances. -/
def codes : IVec S16384 32 := codesOf (dists x w) (constant S_ .f32 0x7F800000#32) (constantI S_ 32 0#32)

/-- The one-hot rows of a vector of codes. -/
def hotsOf (v : IVec S16384 32) : FVec Ideal S16384x1024 .f32 :=
  uitofp .f32 (cmpi .eq
    (broadcastInDim S16384x1024 ![0, 1] bcast_S16384x1_S16384x1024_0_1
      (broadcastInDim S16384x1 ![0] bcast_S16384_S16384x1_0 v))
    (broadcastInDim S16384x1024 ![0, 1] bcast_S1x1024_S16384x1024_0_1 (iotaInDim S1x1024 32 1)))

/-- The one-hot rows. -/
def hots : FVec Ideal S16384x1024 .f32 := hotsOf (codes x w)

/-- The quantised rows, as images with their channels last. -/
def quants : FVec Ideal S16x32x32x256 .f32 :=
  shapeCast S16x32x32x256 (Host.dotGeneral dot_S16384x1024_S1024x256_S16384x256_1_0_0_1_n_n none (hots x w) w)
    shapeCasts_S16384x256_S16x32x32x256

/-- The difference to the input. -/
def diff : FVec Ideal S16x32x32x256 .f32 := subf (quants x w) (last x)

/-- The mean squared error. -/
def mean : FVec Ideal S_ .f32 :=
  Host.divf (Host.reduceAdd (mulf (diff x w) (diff x w)) (constant S_ .f32 0x00000000#32) reducesTo_S16x32x32x256_S_d0_1_2_3 h_S_)
    (constant S_ .f32 0x4A800000#32)

/-- The loss: the codebook's part and the commitment's, whose factor is one. -/
def loss : FVec Ideal S_ .f32 := addf (mean x w) (mulf (constant S_ .f32 0x3F800000#32) (mean x w))

/-- The output: the input plus the difference, channels back in their place. -/
def out : FVec Ideal S16x256x32x32 .f32 :=
  transpose S16x256x32x32 [0, 3, 1, 2] (addf (last x) (diff x w)) transposes_S16x32x32x256_S16x256x32x32_0_3_1_2

/-- The reference runs, and ends with its four results at these terms and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v31) = loss (m ((c.tc : Thread nD τ).loc main_arg0)) (m ((c.tc : Thread nD τ).loc main_arg1))
      ∧ r.2.mem ((c.tc : Thread nD τ).loc main_v32) = out (m ((c.tc : Thread nD τ).loc main_arg0)) (m ((c.tc : Thread nD τ).loc main_arg1))
      ∧ r.2.mem ((c.tc : Thread nD τ).loc main_v17) = hots (m ((c.tc : Thread nD τ).loc main_arg0)) (m ((c.tc : Thread nD τ).loc main_arg1))
      ∧ r.2.mem ((c.tc : Thread nD τ).loc main_v16) = codes (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  hlo_run
  all_goals try simp -implicitDefEqProofs only [StableHlo.TRef.ofBuf_toBuf]
  all_goals try simp -implicitDefEqProofs only [StableHlo.TRef.toBuf, StableHlo.TRef.ofBuf, cast_eq]
  all_goals rfl

end Cert.Proof.Ref

end
-- ==== Proof.ArgMin.lean ====
/- What the reference's arg-min computes: its reducer keeps, of two (distance, code) pairs, the one of smaller distance
   and, of equal distances, the one of smaller code; its fold over a row of distances ends at the first minimum. -/
module

public import proofs.«01_k».proof.Proof.Gen.ReferenceIdeal
public import proofs.«01_k».proof.Proof.FirstMin
public import Idealize.ShloMosaic.Lib.Pointwise
public import Idealize.ShloMosaic.PureOps.Ideal.Laws

@[expose] public section

noncomputable section

namespace Cert.Proof.Ref

open Idealize.ShloMosaic
open Cert.ReferenceIdeal
open Cert.Proof.Vq

/-- A code as the word the reference stores. -/
def worded (a : EReal × ℕ) : EReal × BitVec 32 := (a.1, BitVec.ofNat 32 a.2)

/-- Of words that hold codes below 1024, the signed order is the codes' own. -/
theorem slt_code (a b : ℕ) (ha : a < 1024) (hb : b < 1024) :
    (BitVec.ofNat 32 a).slt (BitVec.ofNat 32 b) = decide (a < b) := by
  have ea : (BitVec.ofNat 32 a).toNat = a := by rw [BitVec.toNat_ofNat]; omega
  have eb : (BitVec.ofNat 32 b).toNat = b := by rw [BitVec.toNat_ofNat]; omega
  unfold BitVec.slt
  rw [BitVec.toInt_eq_toNat_of_lt (by omega), BitVec.toInt_eq_toNat_of_lt (by omega), ea, eb]
  exact decide_eq_decide.2 Int.ofNat_lt

/-- The reducer is the step that keeps the least pair. -/
theorem reducer_eq (a b : EReal × ℕ) (ha : a.2 < 1024) (hb : b.2 < 1024) :
    reducer_argmin_f32_i32 (F := Ideal) (worded a) (worded b) = worded (lexStep a b) := by
  obtain ⟨a1, a2⟩ := a
  obtain ⟨b1, b2⟩ := b
  have olt : FloatOps.cmpf (F := Ideal) (φ := .f32) .olt a1 b1 = BitVec.ofBool (decide (a1 < b1)) := rfl
  have une : FloatOps.cmpf (F := Ideal) (φ := .f32) .une a1 a1 = BitVec.ofBool (decide (a1 ≠ a1)) := rfl
  have oeq : FloatOps.cmpf (F := Ideal) (φ := .f32) .oeq a1 b1 = BitVec.ofBool (decide (a1 = b1)) := rfl
  unfold reducer_argmin_f32_i32 lexStep worded
  simp only [olt, une, oeq, IntOp.cmpi, slt_code _ _ ha hb]
  rcases lt_trichotomy a1 b1 with h | h | h
  · simp [h, h.ne, IntOp.ori, IntOp.andi, Scalar.select]
  · subst h
    by_cases hk : a2 < b2 <;> simp [hk, IntOp.ori, IntOp.andi, Scalar.select]
  · simp [h.not_gt, h.ne', IntOp.ori, IntOp.andi, Scalar.select]

/-- The fold by the reducer over codes' words is the fold over the codes. -/
theorem foldl_reducer (l : List (EReal × ℕ)) (a : EReal × ℕ) (ha : a.2 < 1024) (hl : ∀ b ∈ l, b.2 < 1024) :
    (l.map worded).foldl (reducer_argmin_f32_i32 (F := Ideal)) (worded a) = worded (l.foldl lexStep a) := by
  induction l generalizing a with
  | nil => rfl
  | cons b l ih =>
    have hb := hl b List.mem_cons_self
    rw [List.map_cons, List.foldl_cons, List.foldl_cons, reducer_eq a b ha hb]
    refine ih _ ?_ fun c hc => hl c (List.mem_cons_of_mem _ hc)
    unfold lexStep
    split
    · exact ha
    · exact hb

/-- The arg-min over a row of `R` rows of 1024 distances is the word of the row's first minimum. -/
theorem argmin_apply {R : ℕ} (d : FVec Ideal ⟨2, ![R, 1024]⟩ .f32) (top : FVec Ideal S_ .f32) (zero : IVec S_ 32)
    (htop : top ix0 = ⊤) (hzero : zero ix0 = 0#32)
    (h : (⟨2, ![R, 1024]⟩ : Shape).ReducesTo [1] ⟨1, ![R]⟩) (hu : 0 < S_.numel) (n : Fin R) :
    (Host.argReduce reducer_argmin_f32_i32 d (iotaInDim ⟨2, ![R, 1024]⟩ 32 1) top zero h hu (ix1 n)).2
      = BitVec.ofNat 32 (firstMin fun k => d (ix2 n k)).val := by
  have hf : Shape.Idx.first hu = ix0 := ValueIdx.eq_ix0 _
  rw [Ideal.argReduce_eq_reduce2, Host.reduce2_eq_foldl_fiber, hf, htop, hzero]
  let l : List (EReal × ℕ) :=
    ((List.finRange (⟨2, ![R, 1024]⟩ : Shape).numel).filter fun i => h.drop ((⟨2, ![R, 1024]⟩ : Shape).rowMajor.symm i) = ix1 n).map
      fun i => (d ((⟨2, ![R, 1024]⟩ : Shape).rowMajor.symm i), ((⟨2, ![R, 1024]⟩ : Shape).rowMajor.symm i 1).val)
  have hl : Host.argReduceFiber d (iotaInDim ⟨2, ![R, 1024]⟩ 32 1) h (ix1 n) = l.map worded := by
    simp only [l, Host.argReduceFiber, List.map_map]
    rfl
  have hall : ∀ k : Fin 1024, (d (ix2 n k), k.val) ∈ l := fun k => by
    refine List.mem_map.2 ⟨(⟨2, ![R, 1024]⟩ : Shape).rowMajor (ix2 n k), ?_, ?_⟩
    · refine List.mem_filter.2 ⟨List.mem_finRange _, ?_⟩
      rw [Equiv.symm_apply_apply]
      exact decide_eq_true ((h.fiber_r2_a1 (ix1 n) (ix2 n k)).2 ⟨k, rfl⟩)
    · rw [Equiv.symm_apply_apply]
      rfl
  have honly : ∀ a ∈ l, ∃ k : Fin 1024, a = (d (ix2 n k), k.val) := fun a ha => by
    obtain ⟨i, hi, rfl⟩ := List.mem_map.1 ha
    obtain ⟨k, hk⟩ := (h.fiber_r2_a1 (ix1 n) _).1 (of_decide_eq_true (List.mem_filter.1 hi).2)
    rw [← hk]
    exact ⟨k, rfl⟩
  rw [hl]
  have hw : ((⊤ : EReal), 0#32) = worded (⊤, 0) := rfl
  have hlt : ∀ b ∈ l, b.2 < 1024 := fun b hb => by
    obtain ⟨k, rfl⟩ := honly b hb
    exact k.isLt
  rw [hw, foldl_reducer l (⊤, 0) (by norm_num) hlt, ← foldl_lexStep_firstMin (fun k => d (ix2 n k)) l hall honly]
  rfl

end Cert.Proof.Ref

end
-- ==== Proof.RefRead.lean ====
/- The reference's terms read at an index: each is the quantiser's quantity of the row it belongs to. -/
module

public import proofs.«01_k».proof.Proof.RefRun
public import proofs.«01_k».proof.Proof.Input
public import proofs.«01_k».proof.Proof.Block
public import proofs.«01_k».proof.Proof.ArgMin
public import Idealize.ShloMosaic.Lib.Pipeline.ValueKit

@[expose] public section

set_option maxRecDepth 16384

noncomputable section

namespace Cert.Proof.Ref

open Idealize.ShloMosaic Idealize.ShloMosaic.TcCoe Idealize.SL.Sem
open Cert.ReferenceIdeal
open Cert.ReferenceIdeal.Facts₀ Cert.ReferenceIdeal.Facts
open Cert.Proof.Vq Cert.Proof.Block

variable (x : FVec Ideal S16x256x32x32 .f32) (w : FVec Ideal S1024x256 .f32)

/-- Row `n` of all the rows: image `n / 1024`, position `n % 1024`. -/
def rrow (n : Fin 16384) : Row := irow x ⟨n.val / 1024, by omega⟩ ⟨n.val % 1024, by omega⟩

/-- The images with their channels last, read at an index of the input. -/
theorem last_apply (b : Fin 16) (h v : Fin 32) (c : Fin 256) : last x (ix4 b h v c) = x (ix4 b c h v) := by
  pointwise [last]

/-- The array of rows holds the rows. -/
theorem rows_apply (n : Fin 16384) (c : Fin 256) : rows x (ix2 n c) = rrow x n c := by
  pointwise [rows]
  rw [last_apply]
  unfold rrow irow
  blk_ext!

/-- The reference's distances are the quantiser's. -/
theorem dists_apply (n : Fin 16384) (k : Fin 1024) : dists x w (ix2 n k) = dist (rrow x n) (ibook w) k := by
  pointwise [dists]
  simp only [rows_apply, bits_two]
  rfl

/-- The arg-min starts from the largest value, -/
theorem top_eq : constant (F := Ideal) S_ .f32 0x7F800000#32 ix0 = ⊤ := bits_inf

/-- and code zero. -/
theorem zero_eq : constantI S_ 32 0#32 ix0 = 0#32 := rfl

/-- A row's first minimum, for any distances. -/
theorem first_apply (d : FVec Ideal S16384x1024 .f32) (n : Fin 16384) (top : FVec Ideal S_ .f32) (zero : IVec S_ 32)
    (htop : top ix0 = ⊤) (hzero : zero ix0 = 0#32) :
    (Host.argReduce reducer_argmin_f32_i32 d (iotaInDim S16384x1024 32 1) top zero reducesTo_S16384x1024_S16384_d1 h_S_
      (ix1 n)).2 = BitVec.ofNat 32 (firstMin fun k => d (ix2 n k)).val :=
  argmin_apply d top zero htop hzero reducesTo_S16384x1024_S16384_d1 h_S_ n

/-- The vector of first minima, entry by entry. -/
theorem codesOf_eq (d : FVec Ideal S16384x1024 .f32) (top : FVec Ideal S_ .f32) (zero : IVec S_ 32) :
    codesOf d top zero = fun j => (Host.argReduce reducer_argmin_f32_i32 d (iotaInDim S16384x1024 32 1) top zero
      reducesTo_S16384x1024_S16384_d1 h_S_ j).2 := rfl

/-- The vector of first minima holds, at `n`, the word of row `n`'s first minimum. -/
theorem codesOf_apply (d : FVec Ideal S16384x1024 .f32) (n : Fin 16384) (top : FVec Ideal S_ .f32) (zero : IVec S_ 32)
    (htop : top ix0 = ⊤) (hzero : zero ix0 = 0#32) :
    codesOf d top zero (ix1 n) = BitVec.ofNat 32 (firstMin fun k => d (ix2 n k)).val :=
  (congrFun (codesOf_eq d top zero) (ix1 n)).trans (first_apply d n top zero htop hzero)

/-- The reference's codes. -/
theorem codes_apply (n : Fin 16384) : codes x w (ix1 n) = BitVec.ofNat 32 (code (rrow x n) (ibook w)).val := by
  unfold codes
  rw [codesOf_apply (dists x w) n _ _ top_eq zero_eq]
  unfold code
  exact congrArg (fun f => BitVec.ofNat 32 (firstMin f).val) (funext fun k => dists_apply x w n k)

/-- A truth value, converted, is one or zero. -/
theorem uitofp_bool (q : Prop) [Decidable q] :
    FloatOps.uitofp (F := Ideal) .f32 (BitVec.ofBool (decide q)) = if q then (1 : EReal) else 0 := by
  show (((BitVec.ofBool (decide q)).toNat : ℝ) : EReal) = _
  by_cases h : q <;> simp [h]

/-- The one-hot row of code `v n` is one at `v n` and zero elsewhere. -/
theorem hotsOf_apply (v : IVec S16384 32) (n : Fin 16384) (k : Fin 1024) :
    hotsOf v (ix2 n k) = if v (ix1 n) = BitVec.ofNat 32 k.val then (1 : EReal) else 0 := by
  pointwise [hotsOf]
  rw [← uitofp_bool]
  rfl

/-- The reference's one-hot rows are the quantiser's. -/
theorem hots_apply (n : Fin 16384) (k : Fin 1024) : hots x w (ix2 n k) = hot (rrow x n) (ibook w) k := by
  unfold hots
  rw [hotsOf_apply, codes_apply]
  unfold hot
  refine if_congr ⟨fun e => ?_, fun e => by rw [e]⟩ rfl rfl
  have e' := congrArg BitVec.toNat e
  rw [BitVec.toNat_ofNat, BitVec.toNat_ofNat, Nat.mod_eq_of_lt (by omega), Nat.mod_eq_of_lt (by omega)] at e'
  exact Fin.ext e'.symm

/-- Position `(h, v)` of image `b` is row `h * 32 + v` of that image. -/
theorem rrow_eq (b : Fin 16) (h v : Fin 32) (hn) :
    rrow x ⟨b.val * 1024 + h.val * 32 + v.val, hn⟩ = irow x b ⟨h.val * 32 + v.val, by omega⟩ := by
  unfold rrow
  congr 1
  · exact Fin.ext (show (b.val * 1024 + h.val * 32 + v.val) / 1024 = b.val by omega)
  · exact Fin.ext (show (b.val * 1024 + h.val * 32 + v.val) % 1024 = h.val * 32 + v.val by omega)

/-- The quantised images hold, at each position, the quantised row. -/
theorem quants_apply (b : Fin 16) (h v : Fin 32) (c : Fin 256) :
    quants x w (ix4 b h v c) = quant (irow x b ⟨h.val * 32 + v.val, by omega⟩) (ibook w) c := by
  pointwise [quants]
  simp only [hots_apply]
  rw [rrow_eq]
  rfl

/-- The difference holds, at each position, the quantised row less the row. -/
theorem diff_apply (b : Fin 16) (h v : Fin 32) (c : Fin 256) :
    diff x w (ix4 b h v c) = quant (irow x b ⟨h.val * 32 + v.val, by omega⟩) (ibook w) c
      - irow x b ⟨h.val * 32 + v.val, by omega⟩ c := by
  unfold diff
  show quants x w (ix4 b h v c) - last x (ix4 b h v c) = _
  rw [quants_apply, last_apply]
  congr 1
  unfold irow
  refine congrArg x ?_
  blk_ext!

/-- The sum of the squared differences is the total error. -/
theorem sum_diff : ∑ b : Fin 16, ∑ h : Fin 32, ∑ v : Fin 32, ∑ c : Fin 256, diff x w (ix4 b h v c) * diff x w (ix4 b h v c)
    = total x w := by
  unfold total
  refine Finset.sum_congr rfl fun b _ => ?_
  simp only [diff_apply]
  rw [← Fin.sum_univ_mul_divNat_modNat 32 32 (fun h v => ∑ c, (quant (irow x b ⟨h.val * 32 + v.val, by omega⟩) (ibook w) c
      - irow x b ⟨h.val * 32 + v.val, by omega⟩ c) * (quant (irow x b ⟨h.val * 32 + v.val, by omega⟩) (ibook w) c
      - irow x b ⟨h.val * 32 + v.val, by omega⟩ c))]
  refine Finset.sum_congr rfl fun p _ => ?_
  have hp : (⟨p.divNat.val * 32 + p.modNat.val, by omega⟩ : Fin 1024) = p :=
    Fin.ext (show p.val / 32 * 32 + p.val % 32 = p.val by omega)
  unfold err
  simp only [hp]

/-- The mean squared error is the total error over the number of elements. -/
theorem mean_apply : mean x w ix0 = Ideal.div (total x w) ((4194304 : ℝ) : EReal) := by
  unfold mean
  show Ideal.div (Ideal.hostReduceAdd reducesTo_S16x32x32x256_S_d0_1_2_3 (mulf (diff x w) (diff x w)) _ ix0) _ = _
  rw [Ideal.hostReduceAdd_total _ (fun b => b.elim0), sum_idx4]
  have h0 : constant (F := Ideal) S_ .f32 0x00000000#32 (Shape.Idx.first h_S_) = 0 := Ideal.ofBits_zero_f32
  have hN : constant (F := Ideal) S_ .f32 0x4A800000#32 ix0 = ((4194304 : ℝ) : EReal) := bits_count
  rw [h0, hN, zero_add]
  exact congrArg (Ideal.div · _) (sum_diff x w)

/-- The reference's loss. -/
theorem loss_eq : loss x w = lossOf x w := by
  funext y
  obtain rfl : y = ix0 := ValueIdx.eq_ix0 _
  pointwise [loss]
  rw [mean_apply]
  unfold lossOf
  rw [Ideal.div_coe (by norm_num), Ideal.div_coe (by norm_num), mul_assoc, two_mul_ereal]

/-- The reference's output, where the input is finite. -/
theorem out_eq (hx : ∀ i, x i ≠ ⊥ ∧ x i ≠ ⊤) : out x w = outOf x w := by
  funext y
  idx_vars y
  pointwise [out]
  rw [last_apply, diff_apply]
  have e : irow x y0 ⟨y2.val * 32 + y3.val, by omega⟩ y1 = x (ix4 y0 y1 y2 y3) := by
    unfold irow
    blk_ext!
  rw [e]
  exact add_sub_self (hx _).1 (hx _).2

/-- The reference's one-hot rows. -/
theorem hots_eq : hots x w = hotOf x w := by
  funext y
  idx_vars y
  exact hots_apply x w y0 y1

/-- The reference's codes. -/
theorem codes_eq : codes x w = codeOf x w := by
  funext y
  idx_vars y
  exact codes_apply x w y0

end Cert.Proof.Ref

end
-- ==== Proof.Finite.lean ====
/- The precondition read: an array of which it holds has no infinite entry. -/
module

public import proofs.«01_k».proof.Pre_finite_x
public import proofs.«01_k».proof.Proof.Block

@[expose] public section

noncomputable section

namespace Cert.Proof.Finite

open Idealize.ShloMosaic
open Cert.Pre_finite_x

/-- The one fact the precondition states. -/
theorem facts : Cert.Pre_finite_x.Facts := ⟨by decide⟩

/-- Where the precondition holds of `x`, every entry of `x` is a real. -/
theorem ne_inf [Cert.Pre_finite_x.Facts] (x : FVec Ideal S16x256x32x32 .f32) (w : FVec Ideal S1024x256 .f32)
    (h : fn (F := Ideal) x w = fun _ => 1#1) (i : S16x256x32x32.Idx) : x i ≠ (⊥ : EReal) ∧ x i ≠ (⊤ : EReal) := by
  have hi : BitVec.ofBool (decide (max (x i : EReal) (-(x i : EReal)) < Ideal.ofBits .f32 0x7F800000#32)) = 1#1 := congrFun h i
  rw [Block.bits_inf] at hi
  have hlt : max (x i : EReal) (-(x i : EReal)) < ⊤ := by
    by_contra hn
    rw [decide_eq_false hn] at hi
    exact absurd hi (by decide)
  constructor
  · intro e
    rw [e] at hlt
    simp at hlt
  · intro e
    rw [e] at hlt
    simp at hlt

end Cert.Proof.Finite

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelRun
public import proofs.«01_k».proof.Proof.RefRead
public import proofs.«01_k».proof.Proof.Finite
public import Idealize.ShloMosaic.Adequacy
public import Idealize.ShloMosaic.Init

@[expose] public section

noncomputable section

namespace Cert.Proof

open Idealize.ShloMosaic Idealize.SL.Sem

/-- The reference ends with its arguments as they were and, as it has no counter, every counter at zero. -/
theorem reference_frame (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal))) ⟨m, fun _ => 0, g⟩ fun r =>
      (∀ c : Dev ReferenceIdeal.nD,
        r.2.mem ((c.tc : Thread ReferenceIdeal.nD ReferenceIdeal.τ).loc ReferenceIdeal.main_arg0) = m ((c.tc : Thread ReferenceIdeal.nD ReferenceIdeal.τ).loc ReferenceIdeal.main_arg0)
        ∧ r.2.mem ((c.tc : Thread ReferenceIdeal.nD ReferenceIdeal.τ).loc ReferenceIdeal.main_arg1) = m ((c.tc : Thread ReferenceIdeal.nD ReferenceIdeal.τ).loc ReferenceIdeal.main_arg1))
      ∧ r.2.sem = fun _ => 0 :=
  (θ_run ReferenceIdeal.defs _ _).mono
    (fun r h => ⟨fun c => (h c).2.2.2.2, sem_eq_zero_of_no_sems (by decide) r.2⟩) (Ref.run m g)

/-- At equal arguments with a finite input, the ideal kernel and the reference end with the same four results. -/
theorem results_equal : algebraic_KernelIdeal_ReferenceIdeal_pre_finite_x (hKernelIdeal := Cert.KernelIdeal.Gen.facts)
    (hReferenceIdeal := Cert.ReferenceIdeal.Gen.facts) (hPre_finite_x := Finite.facts) := by
  intro m g m' g' hpre hargs
  refine ⟨fun c => Vq.lossOf (Arrays.xin m c) (Arrays.win m c), fun c => Vq.outOf (Arrays.xin m c) (Arrays.win m c),
    fun c => Vq.hotOf (Arrays.xin m c) (Arrays.win m c), fun c => Vq.codeOf (Arrays.xin m c) (Arrays.win m c),
    KernelRun.run m g, (θ_run ReferenceIdeal.defs _ _).mono (fun r h c => ?_) (Ref.run m' g')⟩
  obtain ⟨h0, h1, h2, h3, ha⟩ := h c
  rw [(hargs c).1, (hargs c).2] at h0 h1 h2 h3
  letI := Finite.facts
  exact ⟨h0.trans (Ref.loss_eq _ _), h1.trans (Ref.out_eq _ _ (Finite.ne_inf _ _ (hpre c))),
    h2.trans (Ref.hots_eq _ _), h3.trans (Ref.codes_eq _ _), ha⟩

/-- All the claims. -/
theorem claim : Cert.Claim :=
  ⟨Cert.Kernel.Gen.facts, Cert.KernelIdeal.Gen.facts, Cert.ReferenceIdeal.Gen.facts, Finite.facts,
    fun m g _ => Cert.Kernel.Gen.frame m g, fun m g _ => Cert.KernelIdeal.Gen.frame m g, fun m g _ => Cert.KernelIdeal.Gen.frame m g,
    fun m g _ => reference_frame m g, fun m g _ => reference_frame m g, trivial, results_equal⟩

end Cert.Proof

end
